-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonneg [hPre_finite_and_nonneg : Cert.Pre_finite_and_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonneg [hPre_finite_and_nonneg : Cert.Pre_finite_and_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_nonneg [hKernelIdeal : Cert.KernelIdeal.Facts] [hPre_finite_and_nonneg : Cert.Pre_finite_and_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_nonneg [hReferenceIdeal : Cert.ReferenceIdeal.Facts] [hPre_finite_and_nonneg : Cert.Pre_finite_and_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_nonneg [hKernelIdeal : Cert.KernelIdeal.Facts] [hReferenceIdeal : Cert.ReferenceIdeal.Facts] [hPre_finite_and_nonneg : Cert.Pre_finite_and_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_nonneg : Cert.Pre_finite_and_nonneg.Facts),
    quiescent_Kernel (hKernel := hKernel)
    ∧ quiescent_KernelIdeal (hKernelIdeal := hKernelIdeal)
    ∧ quiescent_KernelIdeal_pre_finite_and_nonneg (hKernelIdeal := hKernelIdeal) (hPre_finite_and_nonneg := hPre_finite_and_nonneg)
    ∧ quiescent_ReferenceIdeal (hReferenceIdeal := hReferenceIdeal)
    ∧ quiescent_ReferenceIdeal_pre_finite_and_nonneg (hReferenceIdeal := hReferenceIdeal) (hPre_finite_and_nonneg := hPre_finite_and_nonneg)
    ∧ preserves_Kernel_KernelIdeal
    ∧ algebraic_KernelIdeal_ReferenceIdeal_pre_finite_and_nonneg (hKernelIdeal := hKernelIdeal) (hReferenceIdeal := hReferenceIdeal) (hPre_finite_and_nonneg := hPre_finite_and_nonneg)
-- ==== Pre_finite_and_nonneg.lean ====
abbrev S64x64x128 : Shape := ⟨3, ![64, 64, 128]⟩
abbrev S64x4096x128 : Shape := ⟨3, ![64, 4096, 128]⟩
abbrev S64x64 : Shape := ⟨2, ![64, 64]⟩
abbrev S64 : Shape := ⟨1, ![64]⟩
abbrev S_ : Shape := ⟨0, ![]⟩

class Facts : Prop where
  bcast_S_S64x64x128 : S_.BroadcastsInDim S64x64x128 (![] : Fin 0 → Fin S64x64x128.rank)
  bcast_S_S64x4096x128 : S_.BroadcastsInDim S64x4096x128 (![] : Fin 0 → Fin S64x4096x128.rank)
  bcast_S_S64x64 : S_.BroadcastsInDim S64x64 (![] : Fin 0 → Fin S64x64.rank)

variable [Facts]

def fn {F : FTy → Type} [FloatOps F] (main_arg0 : FVec F S64x64x128 .f32) (main_arg1 : FVec F S64x4096x128 .f32) (main_arg2 : FVec F S64x64 .f32) (main_arg3 : IVec S64 32) : IVec S64x64x128 1 × IVec S64x4096x128 1 × IVec S64x64 1 :=
  let main_v0 : FVec F S64x64x128 .f32 := Host.absf main_arg0
  let main_cst : FVec F S_ .f32 := constant S_ .f32 0x7F800000#32
  let main_v1 : FVec F S64x64x128 .f32 := broadcastInDim S64x64x128 ![] bcast_S_S64x64x128 main_cst
  let main_v2 : IVec S64x64x128 1 := cmpf .olt main_v0 main_v1
  let main_v3 : FVec F S64x4096x128 .f32 := Host.absf main_arg1
  let main_cst_0 : FVec F S_ .f32 := constant S_ .f32 0x7F800000#32
  let main_v4 : FVec F S64x4096x128 .f32 := broadcastInDim S64x4096x128 ![] bcast_S_S64x4096x128 main_cst_0
  let main_v5 : IVec S64x4096x128 1 := cmpf .olt main_v3 main_v4
  let main_cst_1 : FVec F S_ .f32 := constant S_ .f32 0x00000000#32
  let main_v6 : FVec F S64x64 .f32 := broadcastInDim S64x64 ![] bcast_S_S64x64 main_cst_1
  let main_v7 : IVec S64x64 1 := cmpf .oge main_arg2 main_v6
  (main_v2, main_v5, main_v7)
-- ==== Kernel.lean ====
abbrev S64x64x128 : Shape := ⟨3, ![64, 64, 128]⟩
abbrev S64x4096x128 : Shape := ⟨3, ![64, 4096, 128]⟩
abbrev S64x64 : Shape := ⟨2, ![64, 64]⟩
abbrev S64 : Shape := ⟨1, ![64]⟩
abbrev S128x128 : Shape := ⟨2, ![128, 128]⟩
abbrev S64x1x64 : Shape := ⟨3, ![64, 1, 64]⟩
abbrev S64x2x1x2048 : Shape := ⟨4, ![64, 2, 1, 2048]⟩
abbrev S1x64x128 : Shape := ⟨3, ![1, 64, 128]⟩
abbrev S1x2048x128 : Shape := ⟨3, ![1, 2048, 128]⟩
abbrev S1x1x64 : Shape := ⟨3, ![1, 1, 64]⟩
abbrev S1x1x1x2048 : Shape := ⟨4, ![1, 1, 1, 2048]⟩
abbrev S64x128 : Shape := ⟨2, ![64, 128]⟩
abbrev S2048x128 : Shape := ⟨2, ![2048, 128]⟩
abbrev S64x2048 : Shape := ⟨2, ![64, 2048]⟩
abbrev S1x64 : Shape := ⟨2, ![1, 64]⟩
abbrev S1x2048 : Shape := ⟨2, ![1, 2048]⟩
abbrev S1 : Shape := ⟨1, ![1]⟩
abbrev S64x4096 : Shape := ⟨2, ![64, 4096]⟩
abbrev S_ : Shape := ⟨0, ![]⟩

abbrev nBuf : Space → Nat
  | .hbm => 16
  | .vmem => 9
  | .smem => 1
  | _ => 0

abbrev bufTy : (tb : Table) → Fin (tcTables nBuf tb) → BufTy
  | .hbm, ⟨0, _⟩ => ⟨S64x64x128, .f32⟩
  | .hbm, ⟨1, _⟩ => ⟨S64x4096x128, .f32⟩
  | .hbm, ⟨2, _⟩ => ⟨S64x64, .f32⟩
  | .hbm, ⟨3, _⟩ => ⟨S128x128, .f32⟩
  | .hbm, ⟨4, _⟩ => ⟨S64x1x64, .f32⟩
  | .hbm, ⟨5, _⟩ => ⟨S64x2x1x2048, .f32⟩
  | .hbm, ⟨6, _⟩ => ⟨S64x4096, .f32⟩
  | .hbm, ⟨7, _⟩ => ⟨S64x2048, .f32⟩
  | .hbm, ⟨8, _⟩ => ⟨S64x2048, .i32⟩
  | .hbm, ⟨9, _⟩ => ⟨S_, .f32⟩
  | .hbm, ⟨10, _⟩ => ⟨S64x2048, .f32⟩
  | .hbm, ⟨11, _⟩ => ⟨S64x2048, .i1⟩
  | .hbm, ⟨12, _⟩ => ⟨S_, .f32⟩
  | .hbm, ⟨13, _⟩ => ⟨S_, .f32⟩
  | .hbm, ⟨14, _⟩ => ⟨S64x2048, .f32⟩
  | .hbm, ⟨15, _⟩ => ⟨S64x2048, .f32⟩
  | .local _ .vmem, ⟨0, _⟩ => ⟨S1x64x128, .f32⟩
  | .local _ .vmem, ⟨1, _⟩ => ⟨S1x64x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1x64, .f32⟩
  | .local _ .vmem, ⟨5, _⟩ => ⟨S1x1x64, .f32⟩
  | .local _ .vmem, ⟨6, _⟩ => ⟨S128x128, .f32⟩
  | .local _ .vmem, ⟨7, _⟩ => ⟨S1x1x1x2048, .f32⟩
  | .local _ .vmem, ⟨8, _⟩ => ⟨S1x1x1x2048, .f32⟩
  | .local _ .smem, ⟨0, _⟩ => ⟨S64, .i32⟩
  | _, _ => ⟨S64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v19 : Index := Scalar.indexCast arg0
  ![v19.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S64x64x128 : Shape := ⟨3, ![64, 64, 128]⟩
abbrev S64x4096x128 : Shape := ⟨3, ![64, 4096, 128]⟩
abbrev S64x64 : Shape := ⟨2, ![64, 64]⟩
abbrev S64 : Shape := ⟨1, ![64]⟩
abbrev S128x128 : Shape := ⟨2, ![128, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S262144x128 : Shape := ⟨2, ![262144, 128]⟩
abbrev S262144 : Shape := ⟨1, ![262144]⟩
abbrev S262144x1 : Shape := ⟨2, ![262144, 1]⟩
abbrev S64x64x4096 : Shape := ⟨3, ![64, 64, 4096]⟩
abbrev S64x4096 : Shape := ⟨2, ![64, 4096]⟩
abbrev S1x4096 : Shape := ⟨2, ![1, 4096]⟩
abbrev S64x1 : Shape := ⟨2, ![64, 1]⟩
abbrev S64x2048 : Shape := ⟨2, ![64, 2048]⟩

abbrev nBuf : Space → Nat
  | .hbm => 91
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S64x4096x128, .f32⟩
  | .hbm, ⟨2, _⟩ => ⟨S64x64, .f32⟩
  | .hbm, ⟨3, _⟩ => ⟨S64, .i32⟩
  | .hbm, ⟨4, _⟩ => ⟨S128x128, .f32⟩
  | .hbm, ⟨5, _⟩ => ⟨S64x64x128, .f32⟩
  | .hbm, ⟨6, _⟩ => ⟨S64x4096x128, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S64x64x128, .f32⟩
  | .hbm, ⟨39, _⟩ => ⟨S262144x128, .f32⟩
  | .hbm, ⟨40, _⟩ => ⟨S262144x128, .f32⟩
  | .hbm, ⟨41, _⟩ => ⟨S_, .f32⟩
  | .hbm, ⟨42, _⟩ => ⟨S262144, .f32⟩
  | .hbm, ⟨43, _⟩ => ⟨S262144x1, .f32⟩
  | .hbm, ⟨44, _⟩ => ⟨S_, .f32⟩
  | .hbm, ⟨45, _⟩ => ⟨S262144x1, .f32⟩
  | .hbm, ⟨46, _⟩ => ⟨S262144x1, .f32⟩
  | .hbm, ⟨47, _⟩ => ⟨S_, .f32⟩
  | .hbm, ⟨48, _⟩ => ⟨S262144x1, .f32⟩
  | .hbm, ⟨49, _⟩ => ⟨S262144x1, .f32⟩
  | .hbm, ⟨50, _⟩ => ⟨S_, .f32⟩
  | .hbm, ⟨51, _⟩ => ⟨S262144x1, .f32⟩
  | .hbm, ⟨52, _⟩ => ⟨S262144x1, .f32⟩
  | .hbm, ⟨53, _⟩ => ⟨S262144x1, .f32⟩
  | .hbm, ⟨54, _⟩ => ⟨S262144x1, .f32⟩
  | .hbm, ⟨55, _⟩ => ⟨S262144x1, .f32⟩
  | .hbm, ⟨56, _⟩ => ⟨S262144x1, .f32⟩
  | .hbm, ⟨57, _⟩ => ⟨S262144x1, .f32⟩
  | .hbm, ⟨58, _⟩ => ⟨S262144x128, .f32⟩
  | .hbm, ⟨59, _⟩ => ⟨S262144x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S_, .f32⟩
  | .hbm, ⟨66, _⟩ => ⟨S262144x128, .f32⟩
  | .hbm, ⟨67, _⟩ => ⟨S262144x128, .f32⟩
  | .hbm, ⟨68, _⟩ => ⟨S262144x128, .f32⟩
  | .hbm, ⟨69, _⟩ => ⟨S262144x128, .f32⟩
  | .hbm, ⟨70, _⟩ => ⟨S64x4096x128, .f32⟩
  | .hbm, ⟨71, _⟩ => ⟨S64x64x4096, .f32⟩
  | .hbm, ⟨72, _⟩ => ⟨S_, .f32⟩
  | .hbm, ⟨73, _⟩ => ⟨S64x64x4096, .f32⟩
  | .hbm, ⟨74, _⟩ => ⟨S64x64x4096, .f32⟩
  | .hbm, ⟨75, _⟩ => ⟨S_, .f32⟩
  | .hbm, ⟨76, _⟩ => ⟨S64x64x4096, .f32⟩
  | .hbm, ⟨77, _⟩ => ⟨S64x64x4096, .f32⟩
  | .hbm, ⟨78, _⟩ => ⟨S64x4096, .f32⟩
  | .hbm, ⟨79, _⟩ => ⟨S4096, .i32⟩
  | .hbm, ⟨80, _⟩ => ⟨S1x4096, .i32⟩
  | .hbm, ⟨81, _⟩ => ⟨S64x1, .i32⟩
  | .hbm, ⟨82, _⟩ => ⟨S64x4096, .i32⟩
  | .hbm, ⟨83, _⟩ => ⟨S64x4096, .i32⟩
  | .hbm, ⟨84, _⟩ => ⟨S64x4096, .i1⟩
  | .hbm, ⟨85, _⟩ => ⟨S_, .f32⟩
  | .hbm, ⟨86, _⟩ => ⟨S_, .f32⟩
  | .hbm, ⟨87, _⟩ => ⟨S64x4096, .f32⟩
  | .hbm, ⟨88, _⟩ => ⟨S64x4096, .f32⟩
  | .hbm, ⟨89, _⟩ => ⟨S64x2048, .f32⟩
  | .hbm, ⟨90, _⟩ => ⟨S64x2048, .i32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_cst_11 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call2_cst : Ref sig .tc := ⟨.hbm, 72, rfl⟩
abbrev main_call2_v0 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_call3_v0 : Ref sig .tc := ⟨.hbm, 86, rfl⟩
abbrev main_call3_v1 : Ref sig .tc := ⟨.hbm, 87, rfl⟩
abbrev main_v55 : Ref sig .tc := ⟨.hbm, 88, rfl⟩
abbrev main_values : Ref sig .tc := ⟨.hbm, 89, rfl⟩
abbrev main_indices : Ref sig .tc := ⟨.hbm, 90, rfl⟩

abbrev nD : Nat := 1
abbrev τ : Topo := Topo.v7x

variable {F : FTy → Type} [FloatOps F]
-- ==== Proof.Frames.lean ====
/- The runs: each program terminates, leaves its arguments alone and all semaphores at zero. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- No index map of the kernel reads the prefetched lengths, so any lengths will do. -/
theorem lens_ok {F : FTy → Type} [FloatOps F]
    (m : (ℓ : Loc Cert.Kernel.nD Cert.Kernel.τ Cert.Kernel.sig) → Buf (Elt F) ℓ) : Cert.Kernel.Gen.Ok m := by
  trivial

/-- The same of the idealized kernel. -/
theorem lens_ok_ideal {F : FTy → Type} [FloatOps F]
    (m : (ℓ : Loc Cert.KernelIdeal.nD Cert.KernelIdeal.τ Cert.KernelIdeal.sig) → Buf (Elt F) ℓ) :
    Cert.KernelIdeal.Gen.Ok m := by
  trivial

/-- The kernel runs, whatever its arguments hold. -/
theorem kernel_runs : Cert.quiescent_Kernel (hKernel := Cert.Kernel.Gen.facts) :=
  fun m g _ => Cert.Kernel.Gen.frame m g (lens_ok m)

/-- So does the idealized kernel. -/
theorem kernel_ideal_runs : Cert.quiescent_KernelIdeal (hKernelIdeal := Cert.KernelIdeal.Gen.facts) :=
  fun m g _ => Cert.KernelIdeal.Gen.frame m g (lens_ok_ideal m)

/-- The reference runs; it has no semaphore, so all of them are at zero. -/
theorem reference_runs : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩)
    (Cert.ReferenceIdeal.Value.run (F := Ideal) m g)

end Cert.Proof

end
-- ==== Proof.Block.lean ====
/- What the kernel writes: at a point of its grid, one block of ranking keys. -/
module

public import proofs.«01_k».proof.Proof.Gen.KernelIdeal
public import proofs.«01_k».proof.Proof.Gen.KernelIdeal.Frame
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.KernelIdeal.Scores

open Idealize.ShloMosaic Idealize.ShloMosaic.TcCoe Idealize.SL.Sem
open Idealize.ShloMosaic.Pipeline (Dat)
open Cert.KernelIdeal Cert.KernelIdeal.Gen

/-- The score of position `p` in batch `b`: rotate queries and keys by the table `had`, multiply, cut below at zero,
    scale, and add the heads up with their weights. -/
def score (had : FVec Ideal S128x128 .f32) (q : FVec Ideal S64x64x128 .f32) (k : FVec Ideal S64x4096x128 .f32)
    (w : FVec Ideal S64x64 .f32) (b : Fin 64) (p : Fin 4096) : EReal :=
  ∑ h : Fin 64, w (ix2 b h) *
    (max (∑ d : Fin 128, (∑ e : Fin 128, q (ix3 b h e) * had (ix2 e d)) * ∑ e : Fin 128, k (ix3 b p e) * had (ix2 e d)) 0 *
      Ideal.ofBits .f32 0x3DB504F3#32)

/-- The key the kernel ranks position `p` of batch `b` by: the score of a position in use, and one of the
    strictly decreasing negative numbers `-1 - p` past the length. -/
def key (had : FVec Ideal S128x128 .f32) (q : FVec Ideal S64x64x128 .f32) (k : FVec Ideal S64x4096x128 .f32)
    (w : FVec Ideal S64x64 .f32) (n : IVec S64 32) (b : Fin 64) (p : Fin 4096) : EReal :=
  Scalar.select (IntOp.cmpi .slt (BitVec.ofNat 32 p.val) (n (ix1 b))) (score had q k w b p)
    (Ideal.ofBits .f32 0xBF800000#32 - FloatOps.sitofp (F := Ideal) .f32 (BitVec.ofNat 32 p.val))

/-- The position a lane `s` of the block `a` stands for. -/
def pos (a : Fin 2) (s : Fin 2048) : Fin 4096 := ⟨a.val * 2048 + s.val, by omega⟩

/-- The position's word, from the two words the kernel adds. -/
theorem pos_word (a : Fin 2) (s : Fin 2048) :
    IntOp.addi (Scalar.muli (BitVec.ofNat 32 a.val) 2048#32) (BitVec.ofNat 32 s.val) = BitVec.ofNat 32 (pos a s).val := by
  simp only [IntOp.addi, Scalar.muli, IntOp.muli, pos, BitVec.ofNat_add, BitVec.ofNat_mul]

variable (m : (ℓ : Loc nD τ sig) → Buf (Elt Ideal) ℓ)

/-- The first grid coordinate, a batch. -/
abbrev gb (t : Fin grid0.N) : Fin 64 := grid0.coords t 0

/-- The second grid coordinate, a half of the positions. -/
abbrev ga (t : Fin grid0.N) : Fin 2 := grid0.coords t 1

/-- Every window's block index, at every point. -/
theorem maps : ∀ i : grid0.Coords, cc0_transform_0 i = ![(i 0).val, 0, 0] ∧ cc0_transform_1 i = ![(i 0).val, (i 1).val, 0]
    ∧ cc0_transform_2 i = ![(i 0).val, 0, 0] ∧ cc0_transform_3 i = ![0, 0]
    ∧ cc0_transform_4 i = ![(i 0).val, (i 1).val, 0, 0] ∧ k0_off1 i = ![(i 0).val] := by
  intro i
  have h0 : (i 0).val < 64 := (i 0).isLt
  have h1 : (i 1).val < 2 := (i 1).isLt
  have e0 : (i 0).val % 4294967296 = (i 0).val := Nat.mod_eq_of_lt (by omega)
  have e1 : (i 1).val % 4294967296 = (i 1).val := Nat.mod_eq_of_lt (by omega)
  refine ⟨?_, ?_, ?_, ?_, ?_, ?_⟩
  · simp [cc0_transform_0, e0]
  · simp [cc0_transform_1, e0, e1]
  · simp [cc0_transform_2, e0]
  · simp [cc0_transform_3]
  · simp [cc0_transform_4, e0, e1]
  · simp [k0_off1, Scalar.indexCast, e0]

/-- A lane of the result's block at `t` in the array. -/
theorem emb4 (hO : Ok m) (t : Fin (cfgM m hO).N) (y : S1x1x1x2048.Idx) :
    (((cfgM m hO).win 4).blk t).view.emb y = ix4 (gb t) (ga t) (0 : Fin 1) (y 3 : Fin 2048) := by
  have hm := (maps (grid0.coords t)).2.2.2.2.1
  funext a
  refine Fin.ext ((((cfgM m hO).win 4).rect_emb_val t y a).trans ?_)
  show cc0_transform_4 (grid0.coords t) a * _ + _ = _
  rw [hm]
  have h0 : (y 0).val < 1 := (y 0).isLt
  have h1 : (y 1).val < 1 := (y 1).isLt
  have h2 : (y 2).val < 1 := (y 2).isLt
  match a with
  | ⟨0, _⟩ => show (gb t).val * 1 + (y 0).val = (gb t).val; omega
  | ⟨1, _⟩ => show (ga t).val * 1 + (y 1).val = (ga t).val; omega
  | ⟨2, _⟩ => show 0 * 1 + (y 2).val = 0; omega
  | ⟨3, _⟩ => show 0 * 2048 + (y 3).val = (y 3).val; omega

/-- The queries' block at `t` is its batch. -/
theorem iblk_q (hO : Ok m) (c : Dev nD) (t : Fin (cfgM m hO).N) (h : Fin 64) (e : Fin 128) :
    iblk m hO c 0 t (ix3 (0 : Fin 1) h e) = m ((c : Thread nD τ).loc main_arg0) (ix3 (gb t) h e) := by
  have hm := (maps (grid0.coords t)).1
  rw [← V_main_arg0 m c]
  show V m c main_arg0 _ = _
  refine congrArg (V m c main_arg0) ?_
  funext a
  refine Fin.ext ((((cfgM m hO).win 0).rect_emb_val t (ix3 (0 : Fin 1) h e) a).trans ?_)
  show cc0_transform_0 (grid0.coords t) a * _ + _ = _
  rw [hm]
  match a with
  | ⟨0, _⟩ => show (gb t).val * 1 + 0 = (gb t).val; omega
  | ⟨1, _⟩ => show 0 * 64 + h.val = h.val; omega
  | ⟨2, _⟩ => show 0 * 128 + e.val = e.val; omega

/-- The keys' block at `t` is its half of its batch. -/
theorem iblk_k (hO : Ok m) (c : Dev nD) (t : Fin (cfgM m hO).N) (s : Fin 2048) (e : Fin 128) :
    iblk m hO c 1 t (ix3 (0 : Fin 1) s e) = m ((c : Thread nD τ).loc main_arg1) (ix3 (gb t) (pos (ga t) s) e) := by
  have hm := (maps (grid0.coords t)).2.1
  rw [← V_main_arg1 m c]
  show V m c main_arg1 _ = _
  refine congrArg (V m c main_arg1) ?_
  funext a
  refine Fin.ext ((((cfgM m hO).win 1).rect_emb_val t (ix3 (0 : Fin 1) s e) a).trans ?_)
  show cc0_transform_1 (grid0.coords t) a * _ + _ = _
  rw [hm]
  match a with
  | ⟨0, _⟩ => show (gb t).val * 1 + 0 = (gb t).val; omega
  | ⟨1, _⟩ => show (ga t).val * 2048 + s.val = (ga t).val * 2048 + s.val; omega
  | ⟨2, _⟩ => show 0 * 128 + e.val = e.val; omega

/-- The table's block is the whole table. -/
theorem iblk_had (hO : Ok m) (c : Dev nD) (t : Fin (cfgM m hO).N) (e d : Fin 128) :
    iblk m hO c 3 t (ix2 e d) = V m c main_cst (ix2 e d) := by
  have hm := (maps (grid0.coords t)).2.2.2.1
  show V m c main_cst _ = _
  refine congrArg (V m c main_cst) ?_
  funext a
  refine Fin.ext ((((cfgM m hO).win 3).rect_emb_val t (ix2 e d) a).trans ?_)
  show cc0_transform_3 (grid0.coords t) a * _ + _ = _
  rw [hm]
  match a with
  | ⟨0, _⟩ => show 0 * 128 + e.val = e.val; omega
  | ⟨1, _⟩ => show 0 * 128 + d.val = d.val; omega

/-- The weights' block at `t` is a row of the array the host reshaped. -/
theorem iblk_w (hO : Ok m) (c : Dev nD) (t : Fin (cfgM m hO).N) (h : Fin 64) :
    iblk m hO c 2 t (ix3 (0 : Fin 1) (0 : Fin 1) h) = V m c main_v0 (ix3 (gb t) (0 : Fin 1) h) := by
  have hm := (maps (grid0.coords t)).2.2.1
  show V m c main_v0 _ = _
  refine congrArg (V m c main_v0) ?_
  funext a
  refine Fin.ext ((((cfgM m hO).win 2).rect_emb_val t (ix3 (0 : Fin 1) (0 : Fin 1) h) a).trans ?_)
  show cc0_transform_2 (grid0.coords t) a * _ + _ = _
  rw [hm]
  match a with
  | ⟨0, _⟩ => show (gb t).val * 1 + 0 = (gb t).val; omega
  | ⟨1, _⟩ => show 0 * 1 + 0 = 0; omega
  | ⟨2, _⟩ => show 0 * 64 + h.val = h.val; omega

/-- The table the host prepares. -/
def table : FVec Ideal S128x128 .f32 := fun i => Ideal.ofBits .f32 (lit0 (S128x128.rowMajor i))

/-- The host's table is what the region finds. -/
theorem V_cst (c : Dev nD) : V m c main_cst = table := by
  entry_read
  rfl

/-- So are the reshaped weights. -/
theorem V_w (c : Dev nD) : V m c main_v0 = shapeCast S64x1x64
    (m ((c : Thread nD τ).loc main_arg2) : FVec Ideal S64x64 .f32) shapeCasts_S64x64_S64x1x64 := by
  entry_read
  rfl

/-- A reshaped weight is the weight. -/
theorem w_at (w : FVec Ideal S64x64 .f32) (b h : Fin 64) :
    (shapeCast S64x1x64 w shapeCasts_S64x64_S64x1x64 : FVec Ideal S64x1x64 .f32) (ix3 b (0 : Fin 1) h) = w (ix2 b h) := by
  pointwise

/-- The length the body loads is its batch's. -/
theorem word_at (c : Dev nD) (t : Fin grid0.N) (inb) (hne) :
    View.readAt (Elt Ideal) (View.whole main_arg3)
      (Rect.unit (s := S64) (k0_off1 (grid0.coords t)) ![1] inb).toLoadRect (tbl m 0) (Shape.Idx.first hne)
      = m ((c : Thread nD τ).loc main_arg3) (ix1 (gb t)) := by
  obtain rfl : c = 0 := Subsingleton.elim _ _
  have hm := (maps (grid0.coords t)).2.2.2.2.2
  rw [← V_main_arg3 m 0]
  show V m 0 main_arg3 _ = _
  refine congrArg (V m 0 main_arg3) ?_
  funext a
  refine Fin.ext ?_
  match a with
  | ⟨0, _⟩ =>
    show k0_off1 (grid0.coords t) 0 + 1 * 0 = (gb t).val
    rw [hm]; rfl

/-- The body's payload at a lane, over whole arrays its blocks are read from. -/
theorem pay_apply (had : FVec Ideal S128x128 .f32) (q : FVec Ideal S64x64x128 .f32) (k : FVec Ideal S64x4096x128 .f32)
    (w : FVec Ideal S64x64 .f32) (n : IVec S64 32) (t : Fin grid0.N)
    (x3 : FVec Ideal S128x128 .f32) (x0 : FVec Ideal S1x64x128 .f32) (x1 : FVec Ideal S1x2048x128 .f32)
    (x2 : FVec Ideal S1x1x64 .f32) (v : BitVec 32)
    (h3 : ∀ e d : Fin 128, x3 (ix2 e d) = had (ix2 e d))
    (h0 : ∀ (h : Fin 64) (e : Fin 128), x0 (ix3 (0 : Fin 1) h e) = q (ix3 (gb t) h e))
    (h1 : ∀ (s : Fin 2048) (e : Fin 128), x1 (ix3 (0 : Fin 1) s e) = k (ix3 (gb t) (pos (ga t) s) e))
    (h2 : ∀ h : Fin 64, x2 (ix3 (0 : Fin 1) (0 : Fin 1) h) = w (ix2 (gb t) h))
    (hv : v = n (ix1 (gb t))) (y : S1x1x1x2048.Idx) :
    k0_pay1 (F := Ideal) (grid0.coords t) x3 x0 x1 x2 v y = key had q k w n (gb t) (pos (ga t) (y 3)) := by
  have hp := pos_word (ga t) (y 3)
  pointwise [k0_pay1]
  unfold key score
  refine congr (congr (congrArg Scalar.select ?_) ?_) ?_
  · exact congr (congrArg (IntOp.cmpi .slt) hp) hv
  · refine Finset.sum_congr rfl fun h _ => ?_
    refine congr (congrArg HMul.hMul (h2 h)) ?_
    refine congrArg (fun z => max z 0 * Ideal.ofBits .f32 0x3DB504F3#32) ?_
    refine Finset.sum_congr rfl fun d _ => ?_
    refine congr (congrArg HMul.hMul ?_) ?_
    · exact Finset.sum_congr rfl fun e _ => congr (congrArg HMul.hMul (h0 h e)) (h3 e d)
    · exact Finset.sum_congr rfl fun e _ => congr (congrArg HMul.hMul (h1 (y 3) e)) (h3 e d)
  · exact congrArg (fun z => Ideal.ofBits .f32 0xBF800000#32 - FloatOps.sitofp (F := Ideal) .f32 z) hp

/-- The kernel's array of keys: its blocks are batches by halves. -/
def keys (c : Dev nD) : FVec Ideal S64x2x1x2048 .f32 := fun j =>
  key table (m ((c : Thread nD τ).loc main_arg0)) (m ((c : Thread nD τ).loc main_arg1)) (m ((c : Thread nD τ).loc main_arg2))
    (m ((c : Thread nD τ).loc main_arg3)) (j 0) (pos (j 1) (j 3))

/-- The blocks cover the array. -/
theorem covers (hO : Ok m) : ((cfgM m hO).win 4).Covers := by
  refine Pipeline.Window.covers_of_indexMap_surj _ rfl (by decide : ∀ a, 0 < S1x1x1x2048.size a) fun β => ?_
  have hb : ∀ a : Fin 4, ((cfgM m hO).win 4).nblk a = (![64, 2, 1, 1] : Fin 4 → Nat) a := by
    intro a
    unfold Pipeline.Window.nblk
    match a with
    | 0 => show (64 + 1 - 1) / 1 = 64; rfl
    | 1 => show (2 + 1 - 1) / 1 = 2; rfl
    | 2 => show (1 + 1 - 1) / 1 = 1; rfl
    | 3 => show (2048 + 2048 - 1) / 2048 = 1; rfl
  let i : grid0.Coords := fun a => match a with
    | ⟨0, _⟩ => (β (0 : Fin 4)).cast (hb 0)
    | ⟨1, _⟩ => (β (1 : Fin 4)).cast (hb 1)
  refine ⟨i, fun (a : Fin 4) => ?_⟩
  show cc0_transform_4 i a = _
  rw [(maps i).2.2.2.2.1]
  have h2 : (β (2 : Fin 4)).val < 1 := ((β (2 : Fin 4)).cast (hb 2)).isLt
  have h3 : (β (3 : Fin 4)).val < 1 := ((β (3 : Fin 4)).cast (hb 3)).isLt
  match a with
  | 0 => rfl
  | 1 => rfl
  | 2 => show 0 = (β (2 : Fin 4)).val; omega
  | 3 => show 0 = (β (3 : Fin 4)).val; omega

/-- After the run the kernel's array holds the keys. -/
theorem final (hO : Ok m) (c : Dev nD) : (dats m hO 0 c).arrAt 4 (cfgM m hO).N = keys m c := by
  refine (dats m hO 0 c).arrAt_eq_of_covers 4 _ (covers m hO) fun t hf y => ?_
  rw [emb4 m hO t y]
  blk_simp
  rw [after0_4]
  unfold outsAt0
  frame_out
  refine pay_apply table (m ((c : Thread nD τ).loc main_arg0)) (m ((c : Thread nD τ).loc main_arg1))
    (m ((c : Thread nD τ).loc main_arg2)) (m ((c : Thread nD τ).loc main_arg3)) t _ _ _ _ _ ?_ ?_ ?_ ?_ ?_ y
  · exact fun e d => (congrFun ((hs0_3 m hO t).read_unread (iblk m hO c 3 t)) (ix2 e d)).trans
      ((iblk_had m hO c t e d).trans (congrFun (V_cst m c) _))
  · exact fun h e => (congrFun ((hs0_0 m hO t).read_unread (iblk m hO c 0 t)) _).trans (iblk_q m hO c t h e)
  · exact fun s e => (congrFun ((hs0_1 m hO t).read_unread (iblk m hO c 1 t)) _).trans (iblk_k m hO c t s e)
  · exact fun h => (congrFun ((hs0_2 m hO t).read_unread (iblk m hO c 2 t)) _).trans
      ((iblk_w m hO c t h).trans ((congrFun (V_w m c) _).trans (w_at _ _ _)))
  · exact word_at m c t _ _

end Cert.KernelIdeal.Scores

end
-- ==== Proof.Tail.lean ====
/- What the host makes of the kernel's keys: the idealized kernel's two results. -/
module

public import proofs.«01_k».proof.Proof.Block
public import proofs.«01_k».proof.Proof.Frames

@[expose] public section

set_option maxRecDepth 16384

noncomputable section

namespace Cert.KernelIdeal.Scores

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The 2048 largest of each row with their places. -/
def top (x : FVec Ideal S64x4096 .f32) : FVec Ideal S64x2048 .f32 × IVec S64x2048 32 :=
  Host.topK S64x2048 1 (FloatOps.cmpfTotal (F := Ideal) .gt) x sliceFits_S64x4096_S64x2048

/-- A negative key shows as the mask value. -/
def shown (v : FVec Ideal S64x2048 .f32) : FVec Ideal S64x2048 .f32 :=
  select (cmpf (F := Ideal) .olt v (broadcastInDim S64x2048 ![] bcast_S_S64x2048 (constant (F := Ideal) S_ .f32 0x00000000#32)))
    (broadcastInDim S64x2048 ![] bcast_S_S64x2048 (constant (F := Ideal) S_ .f32 0xF149F2CA#32)) v

/-- The keys as the host reshapes them: a row of positions for each batch. -/
def rows (c : Dev nD) : FVec Ideal S64x4096 .f32 := shapeCast S64x4096 (keys m c) shapeCasts_S64x2x1x2048_S64x4096

/-- The places, read through the host's operations. -/
theorem after_indices (X : Valuation τ sig (Elt Ideal)) :
    StableHlo.after [(hostOps1 : List (HloOp τ sig (Elt Ideal))), hostOps1_1].flatten X (Proc.devRef .tc main_indices)
      = (top (shapeCast S64x4096 (X (Proc.devRef .tc main_v1) : FVec Ideal S64x2x1x2048 .f32) shapeCasts_S64x2x1x2048_S64x4096)).2 := by
  simp only [hostOps1, hostOps1_1, List.flatten_cons, List.flatten_nil, List.append_nil, List.cons_append, List.nil_append, StableHlo.TRef.unary, StableHlo.TRef.ternary, StableHlo.TRef.toBuf, StableHlo.TRef.ofBuf, cast_eq]
  after_results_simp <;> rfl

/-- The values, likewise. -/
theorem after_values (X : Valuation τ sig (Elt Ideal)) :
    StableHlo.after [(hostOps1 : List (HloOp τ sig (Elt Ideal))), hostOps1_1].flatten X (Proc.devRef .tc main_v5)
      = shown (top (shapeCast S64x4096 (X (Proc.devRef .tc main_v1) : FVec Ideal S64x2x1x2048 .f32) shapeCasts_S64x2x1x2048_S64x4096)).1 := by
  simp only [hostOps1, hostOps1_1, List.flatten_cons, List.flatten_nil, List.append_nil, List.cons_append, List.nil_append, StableHlo.TRef.unary, StableHlo.TRef.ternary, StableHlo.TRef.toBuf, StableHlo.TRef.ofBuf, cast_eq]
  after_results_simp <;> rfl

/-- The arrays of the windows are different buffers. -/
theorem arr_inj : Function.Injective (Pipeline.arrRef spec0) := by decide

/-- The region leaves the keys in its result's array. -/
theorem region_keys (hO : Ok m) (c : Dev nD) :
    Pipeline.withArrays (Pipeline.pin pcfgs (fun _ => adm m hO) 0).spec c (V0 m c)
      (fun w => (dats m hO 0 c).arrAt w (Pipeline.pin pcfgs (fun _ => adm m hO) 0).N) (Proc.devRef .tc main_v1) = keys m c :=
  (Pipeline.withArrays_arr spec0 arr_inj c (V0 m c) (fun w => (dats m hO 0 c).arrAt w (cfgM m hO).N) 4).trans (final m hO c)

/-- The idealized kernel runs, and leaves the top keys shown and their places. -/
theorem run (g : Dev nD → PrngReg) :
    θ_run defs (onTc (τ := τ) (main (F := Ideal))) ⟨m, fun _ => 0, g⟩ (fun r => ∀ c : Dev nD,
      r.2.mem ((c.tc : Thread nD τ).loc main_v5) = shown (top (rows m c)).1
      ∧ r.2.mem ((c.tc : Thread nD τ).loc main_indices) = (top (rows m c)).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hO : Ok m := Cert.Proof.lens_ok_ideal m
  refine (θ_run defs _ _).mono (fun r h c => ⟨?_, ?_, h.2 c⟩)
    (θ_run_and (run_main m g hO) (unchanged m g hO))
  · refine ((h.1 c).2 main_v5 (by decide : main_v5 ∈ Pipeline.restRefs sig spec0)).trans ?_
    unfold Pipeline.afterTail
    rw [after_values, region_keys]
    rfl
  · refine ((h.1 c).2 main_indices (by decide : main_indices ∈ Pipeline.restRefs sig spec0)).trans ?_
    unfold Pipeline.afterTail
    rw [after_indices, region_keys]
    rfl

/-- The row of keys at a position. -/
theorem rows_apply (c : Dev nD) (b : Fin 64) (p : Fin 4096) :
    rows m c (ix2 b p) = key table (m ((c : Thread nD τ).loc main_arg0)) (m ((c : Thread nD τ).loc main_arg1))
      (m ((c : Thread nD τ).loc main_arg2)) (m ((c : Thread nD τ).loc main_arg3)) b p := by
  unfold rows
  generalize hk : keys m c = K
  pointwise
  rw [← hk]
  refine congrArg (key table _ _ _ _ b) (Fin.ext ?_)
  show p.val / 2048 * 2048 + p.val % 2048 = p.val
  omega

end Cert.KernelIdeal.Scores

end
-- ==== Proof.Quant.lean ====
/- Exact arithmetic: scaling a finite row by a power of two that brings it inside the clip bounds, clipping,
   and scaling back gives the row. -/
module

public import Idealize.ShloMosaic.PureOps.Ideal

@[expose] public section

noncomputable section

namespace Cert.Quant

open Idealize.ShloMosaic

/-! ## The literals -/

/-- The largest quantised magnitude. -/
theorem lit_448 : Ideal.ofBits .f32 0x43E00000#32 = ((448 : ℝ) : EReal) := by
  simp [Ideal.ofBits, Ideal.ieee, -EReal.coe_mul]; norm_num
/-- Its negation. -/
theorem lit_neg448 : Ideal.ofBits .f32 0xC3E00000#32 = ((-448 : ℝ) : EReal) := by
  simp [Ideal.ofBits, Ideal.ieee, -EReal.coe_mul]; norm_num
/-- Two. -/
theorem lit_two : Ideal.ofBits .f32 0x40000000#32 = ((2 : ℝ) : EReal) := by
  simp [Ideal.ofBits, Ideal.ieee, -EReal.coe_mul]; norm_num
/-- The floor under the magnitudes is a positive real. -/
theorem lit_eps : ∃ e : ℝ, 0 < e ∧ Ideal.ofBits .f32 0x38D1B717#32 = (e : EReal) := by
  refine ⟨(13743895 : ℝ) * (2 : ℝ) ^ (-37 : ℤ), by positivity, ?_⟩
  simp [Ideal.ofBits, Ideal.ieee, -EReal.coe_mul]
/-- The start of a row's maximum. -/
theorem lit_bot : Ideal.ofBits .f32 0xFF800000#32 = (⊥ : EReal) := by
  simp [Ideal.ofBits, Ideal.ieee]
/-- The predicate's bound. -/
theorem lit_top : Ideal.ofBits .f32 0x7F800000#32 = (⊤ : EReal) := by
  simp [Ideal.ofBits, Ideal.ieee]
/-- Zero. -/
theorem lit_zero : Ideal.ofBits .f32 0x00000000#32 = (0 : EReal) := by
  simp [Ideal.ofBits, Ideal.ieee]
/-- The scale of the scores, and the table's positive entry, is a positive real. -/
theorem lit_c : ∃ e : ℝ, 0 < e ∧ Ideal.ofBits .f32 0x3DB504F3#32 = (e : EReal) := by
  refine ⟨(11863283 : ℝ) * (2 : ℝ) ^ (-27 : ℤ), by positivity, ?_⟩
  simp [Ideal.ofBits, Ideal.ieee, -EReal.coe_mul]
/-- The table's negative entry is a real. -/
theorem lit_negc : ∃ e : ℝ, Ideal.ofBits .f32 0xBDB504F3#32 = (e : EReal) := by
  refine ⟨-((11863283 : ℝ) * (2 : ℝ) ^ (-27 : ℤ)), ?_⟩
  simp [Ideal.ofBits, Ideal.ieee, -EReal.coe_mul]
/-- Minus one. -/
theorem lit_neg1 : Ideal.ofBits .f32 0xBF800000#32 = ((-1 : ℝ) : EReal) := by
  simp [Ideal.ofBits, Ideal.ieee, -EReal.coe_mul]; norm_num
/-- The mask value is a negative real. -/
theorem lit_mask : ∃ e : ℝ, e < 0 ∧ Ideal.ofBits .f32 0xF149F2CA#32 = (e : EReal) := by
  refine ⟨-((13234890 : ℝ) * (2 : ℝ) ^ (76 : ℤ)), by norm_num, ?_⟩
  simp [Ideal.ofBits, Ideal.ieee, -EReal.coe_mul]

/-! ## The quantiser -/

/-- The power of two a row of largest magnitude `a` is divided by. -/
def scale (a : EReal) : EReal :=
  Ideal.exp (Ideal.liftRound Int.ceil
    (Ideal.div (Ideal.log (Ideal.div (max a (Ideal.ofBits .f32 0x38D1B717#32)) (Ideal.ofBits .f32 0x43E00000#32)))
      (Ideal.log (Ideal.ofBits .f32 0x40000000#32))) * Ideal.log (Ideal.ofBits .f32 0x40000000#32))

/-- Scale down, clip, scale back. -/
def quant (a x : EReal) : EReal :=
  min (Ideal.ofBits .f32 0x43E00000#32) (max (Ideal.ofBits .f32 0xC3E00000#32) (Ideal.div x (scale a))) * scale a

/-- The power is real, positive, and at least a 448th of the magnitude. -/
theorem scale_real (a : ℝ) : ∃ s : ℝ, 0 < s ∧ a ≤ 448 * s ∧ scale (a : EReal) = (s : EReal) := by
  obtain ⟨e, he, hE⟩ := lit_eps
  have hl : (0 : ℝ) < Real.log 2 := Real.log_pos (by norm_num)
  have hM : 0 < max a e := lt_of_lt_of_le he (le_max_right _ _)
  have hM' : 0 < max a e / 448 := by positivity
  refine ⟨Real.exp ((⌈Real.log (max a e / 448) / Real.log 2⌉ : ℤ) * Real.log 2), Real.exp_pos _, ?_, ?_⟩
  · have h1 : Real.log (max a e / 448) / Real.log 2 ≤ (⌈Real.log (max a e / 448) / Real.log 2⌉ : ℤ) := Int.le_ceil _
    have h2 := (div_le_iff₀ hl).1 h1
    have h3 := Real.exp_le_exp.2 h2
    rw [Real.exp_log hM'] at h3
    have h4 : a ≤ max a e := le_max_left _ _
    linarith
  · unfold scale
    rw [hE, lit_448, lit_two, ← EReal.coe_strictMono.monotone.map_max, Ideal.div_coe (by norm_num), ← EReal.coe_mul,
      Ideal.log_coe, Ideal.log_coe, if_neg (by rw [mul_one_div]; exact not_le.2 hM'), if_neg (by norm_num),
      Ideal.div_coe hl.ne', ← EReal.coe_mul, Ideal.liftRound_coe, ← EReal.coe_mul, Ideal.exp_coe, mul_one_div, mul_one_div]

/-- No element beyond the row's magnitude is clipped, so it comes back as it was. -/
theorem quant_eq (a x : ℝ) (h : |x| ≤ a) : quant (a : EReal) (x : EReal) = (x : EReal) := by
  obtain ⟨s, hs, has, hS⟩ := scale_real a
  have hx : |x / s| ≤ 448 := by
    rw [abs_div, abs_of_pos hs, div_le_iff₀ hs]
    exact h.trans has
  obtain ⟨hlo, hhi⟩ := abs_le.1 hx
  unfold quant
  rw [hS, lit_448, lit_neg448, Ideal.div_coe hs.ne', ← EReal.coe_mul, mul_one_div,
    max_eq_right (EReal.coe_le_coe_iff.2 hlo), min_eq_right (EReal.coe_le_coe_iff.2 hhi), ← EReal.coe_mul,
    div_mul_cancel₀ _ hs.ne']

/-! ## A finite row -/

/-- The largest magnitude of a finite row is a real no element passes. -/
theorem amax_real {n : Nat} (x : Fin (n + 1) → EReal) (h : ∀ i, ∃ r : ℝ, x i = r) :
    ∃ a : ℝ, Finset.fold max (Ideal.ofBits .f32 0xFF800000#32) (fun i => FloatOps.absf (F := Ideal) (φ := .f32) (x i)) Finset.univ = (a : EReal)
      ∧ ∀ (i) (r : ℝ), x i = r → |r| ≤ a := by
  choose r hr using h
  have habs : ∀ i, (FloatOps.absf (F := Ideal) (φ := .f32) (x i) : EReal) = ((|r i| : ℝ) : EReal) := by
    intro i
    show max (x i) (-x i) = _
    rw [hr i, ← EReal.coe_neg, ← EReal.coe_strictMono.monotone.map_max]
    rfl
  simp only [habs, lit_bot]
  set f := Finset.fold max (⊥ : EReal) (fun i => ((|r i| : ℝ) : EReal)) Finset.univ with hf
  have hle : ∀ i, ((|r i| : ℝ) : EReal) ≤ f := fun i => (Finset.le_fold_max _).2 (.inr ⟨i, Finset.mem_univ i, le_refl _⟩)
  have htop : f < ⊤ := (Finset.fold_max_lt _).2 ⟨bot_lt_top, fun i _ => EReal.coe_lt_top _⟩
  have hbot : ⊥ < f := lt_of_lt_of_le (EReal.bot_lt_coe _) (hle 0)
  lift f to ℝ using ⟨htop.ne, hbot.ne'⟩ with a ha
  refine ⟨a, rfl, fun i s hs => ?_⟩
  have : r i = s := EReal.coe_eq_coe_iff.1 ((hr i).symm.trans hs)
  rw [← this]
  exact EReal.coe_le_coe_iff.1 (hle i)

/-- A finite row comes back from the quantiser as it was. -/
theorem row_eq {n : Nat} (x : Fin (n + 1) → EReal) (h : ∀ i, ∃ r : ℝ, x i = r) (i : Fin (n + 1)) :
    quant (Finset.fold max (Ideal.ofBits .f32 0xFF800000#32)
      (fun i => FloatOps.absf (F := Ideal) (φ := .f32) (x i)) Finset.univ) (x i) = x i := by
  obtain ⟨a, ha, hle⟩ := amax_real x h
  obtain ⟨r, hr⟩ := h i
  rw [ha, hr, quant_eq a r (hle i r hr)]

/-- A finite sum of products of reals is a real. -/
theorem sum_real {n : Nat} (x y : Fin n → EReal) (hx : ∀ i, ∃ r : ℝ, x i = r) (hy : ∀ i, ∃ r : ℝ, y i = r) :
    ∃ r : ℝ, ∑ i, x i * y i = (r : EReal) := by
  choose f hf using hx
  choose g hg using hy
  refine ⟨∑ i, f i * g i, ?_⟩
  simp only [hf, hg, ← EReal.coe_mul]
  exact (map_sum (⟨⟨Real.toEReal, EReal.coe_zero⟩, EReal.coe_add⟩ : ℝ →+ EReal) _ _).symm

end Cert.Quant

end
-- ==== Proof.Table.lean ====
/- The Hadamard table: both programs print the same one, and its entries are two finite numbers. -/
module

public import proofs.«01_k».proof.KernelIdeal
public import proofs.«01_k».proof.ReferenceIdeal

@[expose] public section

set_option maxRecDepth 65536

namespace Cert.Table

/-- The two programs print one table. -/
theorem same : Cert.KernelIdeal.lit0t = Cert.ReferenceIdeal.lit0t := rfl

/-- A word is the positive or the negative entry. -/
abbrev Sign (w : BitVec 32) : Prop := w = 0x3DB504F3#32 ∨ w = 0xBDB504F3#32

/-- The `n` entries from `lo` on are signed entries. -/
abbrev Signs (lo n : Nat) : Prop := ∀ i : Fin n, Sign (Cert.ReferenceIdeal.lit0t (lo + i.val))

/-- Rows 0 to 15 of the table. -/
theorem part0 : Signs 0 2048 := by decide +kernel
/-- Rows 16 to 31 of the table. -/
theorem part1 : Signs 2048 2048 := by decide +kernel
/-- Rows 32 to 47 of the table. -/
theorem part2 : Signs 4096 2048 := by decide +kernel
/-- Rows 48 to 63 of the table. -/
theorem part3 : Signs 6144 2048 := by decide +kernel
/-- Rows 64 to 79 of the table. -/
theorem part4 : Signs 8192 2048 := by decide +kernel
/-- Rows 80 to 95 of the table. -/
theorem part5 : Signs 10240 2048 := by decide +kernel
/-- Rows 96 to 111 of the table. -/
theorem part6 : Signs 12288 2048 := by decide +kernel
/-- Rows 112 to 127 of the table. -/
theorem part7 : Signs 14336 2048 := by decide +kernel

/-- Neighbouring stretches join. -/
theorem Signs.join {lo n k : Nat} (h : Signs lo n) (h' : Signs (lo + n) k) : Signs lo (n + k) := by
  intro i
  by_cases hi : i.val < n
  · exact h ⟨i.val, hi⟩
  · have h2 := h' ⟨i.val - n, by omega⟩
    have e : lo + n + (i.val - n) = lo + i.val := by omega
    rw [← e]
    exact h2

/-- Every entry is one of the two words. -/
theorem all : Signs 0 16384 :=
  ((((((part0.join part1).join part2).join part3).join part4).join part5).join part6).join part7

/-- Every entry of the printed table is one of the two words. -/
theorem words (i : Fin 16384) : Sign (Cert.ReferenceIdeal.lit0 i) := by
  have h := all i
  rw [Nat.zero_add] at h
  exact h

/-- The two printed tables agree entry by entry. -/
theorem same_lit (i : Fin 16384) : Cert.KernelIdeal.lit0 i = Cert.ReferenceIdeal.lit0 i := congrFun same i.val

end Cert.Table
-- ==== Proof.Logits.lean ====
/- The reference's logits: on finite operands its quantiser changes nothing, so a position in use has the score
   the kernel ranks by, and one past the length has the mask value. -/
module

public import proofs.«01_k».proof.Proof.Gen.ReferenceIdeal
public import proofs.«01_k».proof.Proof.Gen.ReferenceIdeal.Run
public import proofs.«01_k».proof.Proof.Block
public import proofs.«01_k».proof.Proof.Quant
public import proofs.«01_k».proof.Proof.Table
public import Idealize.ShloMosaic.Lib.Pointwise
public import Idealize.ShloMosaic.Lib.Claim

@[expose] public section

set_option maxRecDepth 16384

noncomputable section

namespace Cert.ReferenceIdeal.Logits

open Idealize.ShloMosaic Idealize.ShloMosaic.TcCoe Idealize.SL.Sem
open Cert.ReferenceIdeal Cert.ReferenceIdeal.Gen

variable (m : (ℓ : Loc nD τ sig) → Buf (Elt Ideal) ℓ)

/-! ## The queries -/

/-- Each query row's largest magnitude. -/
def amaxQ (x : FVec Ideal S4096x128 .f32) : FVec Ideal S4096 .f32 :=
  Host.reduce FloatOps.maximumf (Host.absf x) (constant (F := Ideal) S_ .f32 0xFF800000#32) reducesTo_S4096x128_S4096_d1 h_S_

/-- The power of two for each query row. -/
def scaleQ (a : FVec Ideal S4096 .f32) : FVec Ideal S4096x1 .f32 :=
  Host.exp (mulf (Host.ceil (Host.divf (Host.log (Host.divf (maximumf (broadcastInDim S4096x1 ![0] bcast_S4096_S4096x1_0 a) (broadcastInDim S4096x1 ![] bcast_S_S4096x1 (constant S_ .f32 0x38D1B717#32))) (broadcastInDim S4096x1 ![] bcast_S_S4096x1 (constant S_ .f32 0x43E00000#32)))) (Host.log (broadcastInDim S4096x1 ![] bcast_S_S4096x1 (constant S_ .f32 0x40000000#32))))) (Host.log (broadcastInDim S4096x1 ![] bcast_S_S4096x1 (constant S_ .f32 0x40000000#32))))

/-- The quantised queries, scaled back. -/
def dqQ (x : FVec Ideal S4096x128 .f32) : FVec Ideal S4096x128 .f32 :=
  mulf (minimumf (broadcastInDim S4096x128 ![] bcast_S_S4096x128 (id (constant S_ .f32 0x43E00000#32))) (maximumf (broadcastInDim S4096x128 ![] bcast_S_S4096x128 (id (constant S_ .f32 0xC3E00000#32))) (Host.divf x (broadcastInDim S4096x128 ![0, 1] bcast_S4096x1_S4096x128_0_1 (scaleQ (amaxQ x)))))) (broadcastInDim S4096x128 ![0, 1] bcast_S4096x1_S4096x128_0_1 (scaleQ (amaxQ x)))

/-- The rotated queries, as rows. -/
def rotQ (q : FVec Ideal S64x64x128 .f32) (had : FVec Ideal S128x128 .f32) : FVec Ideal S4096x128 .f32 :=
  shapeCast _ (Host.dotGeneral dot_S64x64x128_S128x128_S64x64x128_2_0_01_1_n_n none q had) shapeCasts_S64x64x128_S4096x128

theorem amaxQ_apply (x : FVec Ideal S4096x128 .f32) (r : Fin 4096) : amaxQ x (ix1 r)
    = Finset.fold max (Ideal.ofBits .f32 0xFF800000#32) (fun i => FloatOps.absf (F := Ideal) (φ := .f32) (x (ix2 r i))) Finset.univ := by
  pointwise [amaxQ]

/-- One element out of the quantiser. -/
theorem dqQ_apply (x : FVec Ideal S4096x128 .f32) (r : Fin 4096) (d : Fin 128) :
    dqQ x (ix2 r d) = Quant.quant (amaxQ x (ix1 r)) (x (ix2 r d)) := by
  pointwise [dqQ, scaleQ]
  rfl

/-- One element of the rotated queries. -/
theorem rotQ_apply (q : FVec Ideal S64x64x128 .f32) (had : FVec Ideal S128x128 .f32) (b h : Fin 64) (d : Fin 128) :
    rotQ q had (ix2 ⟨b.val * 64 + h.val, by omega⟩ d) = ∑ e : Fin 128, q (ix3 b h e) * had (ix2 e d) := by
  pointwise [rotQ]

/-! ## The keys -/

/-- Each key row's largest magnitude. -/
def amaxK (x : FVec Ideal S262144x128 .f32) : FVec Ideal S262144 .f32 :=
  Host.reduce FloatOps.maximumf (Host.absf x) (constant (F := Ideal) S_ .f32 0xFF800000#32) reducesTo_S262144x128_S262144_d1 h_S_

/-- The power of two for each key row. -/
def scaleK (a : FVec Ideal S262144 .f32) : FVec Ideal S262144x1 .f32 :=
  Host.exp (mulf (Host.ceil (Host.divf (Host.log (Host.divf (maximumf (broadcastInDim S262144x1 ![0] bcast_S262144_S262144x1_0 a) (broadcastInDim S262144x1 ![] bcast_S_S262144x1 (constant S_ .f32 0x38D1B717#32))) (broadcastInDim S262144x1 ![] bcast_S_S262144x1 (constant S_ .f32 0x43E00000#32)))) (Host.log (broadcastInDim S262144x1 ![] bcast_S_S262144x1 (constant S_ .f32 0x40000000#32))))) (Host.log (broadcastInDim S262144x1 ![] bcast_S_S262144x1 (constant S_ .f32 0x40000000#32))))

/-- The quantised keys, scaled back. -/
def dqK (x : FVec Ideal S262144x128 .f32) : FVec Ideal S262144x128 .f32 :=
  mulf (minimumf (broadcastInDim S262144x128 ![] bcast_S_S262144x128 (id (constant S_ .f32 0x43E00000#32))) (maximumf (broadcastInDim S262144x128 ![] bcast_S_S262144x128 (id (constant S_ .f32 0xC3E00000#32))) (Host.divf x (broadcastInDim S262144x128 ![0, 1] bcast_S262144x1_S262144x128_0_1 (scaleK (amaxK x)))))) (broadcastInDim S262144x128 ![0, 1] bcast_S262144x1_S262144x128_0_1 (scaleK (amaxK x)))

/-- The rotated keys, as rows. -/
def rotK (k : FVec Ideal S64x4096x128 .f32) (had : FVec Ideal S128x128 .f32) : FVec Ideal S262144x128 .f32 :=
  shapeCast _ (Host.dotGeneral dot_S64x4096x128_S128x128_S64x4096x128_2_0_01_1_n_n none k had) shapeCasts_S64x4096x128_S262144x128

theorem amaxK_apply (x : FVec Ideal S262144x128 .f32) (r : Fin 262144) : amaxK x (ix1 r)
    = Finset.fold max (Ideal.ofBits .f32 0xFF800000#32) (fun i => FloatOps.absf (F := Ideal) (φ := .f32) (x (ix2 r i))) Finset.univ := by
  pointwise [amaxK]

/-- A column holds one number for each key row. -/
theorem colK (a : FVec Ideal S262144 .f32) (r : Fin 262144) (z : Fin 1) :
    broadcastInDim S262144x1 ![0] bcast_S262144_S262144x1_0 a (ix2 r z) = a (ix1 r) := by
  pointwise []

/-- A row repeats its column's number. -/
theorem spreadK (v : FVec Ideal S262144x1 .f32) (r : Fin 262144) (d : Fin 128) :
    broadcastInDim S262144x128 ![0, 1] bcast_S262144x1_S262144x128_0_1 v (ix2 r d) = v (ix2 r 0) := by
  pointwise []

/-- One row's power of two. -/
theorem scaleK_apply (a : FVec Ideal S262144 .f32) (r : Fin 262144) (z : Fin 1) :
    scaleK a (ix2 r z) = Quant.scale (a (ix1 r)) :=
  congrArg (fun y => Quant.scale y) (colK a r z)

/-- One element out of the quantiser. -/
theorem dqK_apply (x : FVec Ideal S262144x128 .f32) (r : Fin 262144) (d : Fin 128) :
    dqK x (ix2 r d) = Quant.quant (amaxK x (ix1 r)) (x (ix2 r d)) :=
  congrArg (fun s => min (Ideal.ofBits .f32 0x43E00000#32) (max (Ideal.ofBits .f32 0xC3E00000#32) (Ideal.div (x (ix2 r d)) s)) * s)
    ((spreadK (scaleK (amaxK x)) r d).trans (scaleK_apply (amaxK x) r 0))

/-- One element of the rotated keys. -/
theorem rotK_apply (k : FVec Ideal S64x4096x128 .f32) (had : FVec Ideal S128x128 .f32) (b : Fin 64) (p : Fin 4096) (d : Fin 128) :
    rotK k had (ix2 ⟨b.val * 4096 + p.val, by omega⟩ d) = ∑ e : Fin 128, k (ix3 b p e) * had (ix2 e d) := by
  pointwise [rotK]

/-! ## The logits -/

/-- The masked scores. -/
def logits (X : FVec Ideal S4096x128 .f32) (Y : FVec Ideal S262144x128 .f32) (w : FVec Ideal S64x64 .f32) (n : IVec S64 32) : FVec Ideal S64x4096 .f32 :=
  select (cmpi .slt (broadcastInDim S64x4096 ![0, 1] bcast_S1x4096_S64x4096_0_1 (broadcastInDim S1x4096 ![1] bcast_S4096_S1x4096_1 (iotaInDim S4096 32 0))) (broadcastInDim S64x4096 ![0, 1] bcast_S64x1_S64x4096_0_1 (broadcastInDim S64x1 ![0] bcast_S64_S64x1_0 n))) (Host.dotGeneral dot_S64x64_S64x64x4096_S64x4096_1_1_n_2_0_0 none w (mulf (maximumf (Host.dotGeneral dot_S64x64x128_S64x4096x128_S64x64x4096_2_2_1_1_0_0 none (shapeCast _ X shapeCasts_S4096x128_S64x64x128) (shapeCast _ Y shapeCasts_S262144x128_S64x4096x128)) (broadcastInDim S64x64x4096 ![] bcast_S_S64x64x4096 (constant S_ .f32 0x00000000#32))) (broadcastInDim S64x64x4096 ![] bcast_S_S64x64x4096 (constant S_ .f32 0x3DB504F3#32)))) (broadcastInDim S64x4096 ![] bcast_S_S64x4096 (id (constant S_ .f32 0xF149F2CA#32)))

/-- One masked score. -/
theorem logits_apply (X : FVec Ideal S4096x128 .f32) (Y : FVec Ideal S262144x128 .f32) (w : FVec Ideal S64x64 .f32) (n : IVec S64 32) (b : Fin 64) (p : Fin 4096) :
    logits X Y w n (ix2 b p) = Scalar.select (IntOp.cmpi .slt (BitVec.ofNat 32 p.val) (n (ix1 b)))
      (∑ h : Fin 64, w (ix2 b h) * (max (∑ d : Fin 128, X (ix2 ⟨b.val * 64 + h.val, by omega⟩ d) * Y (ix2 ⟨b.val * 4096 + p.val, by omega⟩ d)) 0 *
        Ideal.ofBits .f32 0x3DB504F3#32)) (Ideal.ofBits .f32 0xF149F2CA#32) := by
  pointwise [logits]
  rfl

/-- The printed table as numbers. -/
def table : FVec Ideal S128x128 .f32 := fun i => FloatOps.ofBits (F := Ideal) .f32 (lit0 (S128x128.rowMajor i))

/-- The kernel's table is the reference's. -/
theorem table_same : Cert.KernelIdeal.Scores.table = table :=
  funext fun i => congrArg (Ideal.ofBits .f32) (Table.same_lit (S128x128.rowMajor i))

/-- The table's entries are real. -/
theorem table_real (i : S128x128.Idx) : ∃ r : ℝ, table i = (r : EReal) := by
  show ∃ r : ℝ, Ideal.ofBits .f32 (lit0 (S128x128.rowMajor i)) = (r : EReal)
  rcases Table.words (S128x128.rowMajor i) with h | h <;> rw [h]
  · exact Quant.lit_c.imp fun _ hr => hr.2
  · exact Quant.lit_negc

/-- The reference's logits of one set of operands. -/
def reference (q : FVec Ideal S64x64x128 .f32) (k : FVec Ideal S64x4096x128 .f32) (w : FVec Ideal S64x64 .f32) (n : IVec S64 32) : FVec Ideal S64x4096 .f32 :=
  logits (dqQ (rotQ q table)) (dqK (rotK k table)) w n

/-- On finite operands a logit is the score of its position, or the mask value. -/
theorem reference_apply (q : FVec Ideal S64x64x128 .f32) (k : FVec Ideal S64x4096x128 .f32) (w : FVec Ideal S64x64 .f32) (n : IVec S64 32)
    (hq : ∀ i, ∃ r : ℝ, q i = (r : EReal)) (hk : ∀ i, ∃ r : ℝ, k i = (r : EReal)) (b : Fin 64) (p : Fin 4096) :
    reference q k w n (ix2 b p) = Scalar.select (IntOp.cmpi .slt (BitVec.ofNat 32 p.val) (n (ix1 b)))
      (Cert.KernelIdeal.Scores.score table q k w b p) (Ideal.ofBits .f32 0xF149F2CA#32) := by
  have hQ : ∀ (h : Fin 64) (d : Fin 128), dqQ (rotQ q table) (ix2 ⟨b.val * 64 + h.val, by omega⟩ d) = ∑ e : Fin 128, q (ix3 b h e) * table (ix2 e d) := by
    intro h d
    rw [dqQ_apply, amaxQ_apply]
    refine (Quant.row_eq (fun i : Fin 128 => rotQ q table (ix2 ⟨b.val * 64 + h.val, by omega⟩ i)) (fun i => ?_) d).trans (rotQ_apply q table b h d)
    rw [rotQ_apply]
    exact Quant.sum_real _ _ (fun e => hq _) (fun e => table_real _)
  have hK : ∀ d : Fin 128, dqK (rotK k table) (ix2 ⟨b.val * 4096 + p.val, by omega⟩ d) = ∑ e : Fin 128, k (ix3 b p e) * table (ix2 e d) := by
    intro d
    rw [dqK_apply, amaxK_apply]
    refine (Quant.row_eq (fun i : Fin 128 => rotK k table (ix2 ⟨b.val * 4096 + p.val, by omega⟩ i)) (fun i => ?_) d).trans (rotK_apply k table b p d)
    rw [rotK_apply]
    exact Quant.sum_real _ _ (fun e => hk _) (fun e => table_real _)
  rw [reference, logits_apply]
  simp only [hQ, hK]
  rfl

/-- The logits of the operands in memory. -/
def rows (c : Dev nD) : FVec Ideal S64x4096 .f32 :=
  reference (m ((c.tc : Thread nD τ).loc main_arg0)) (m ((c.tc : Thread nD τ).loc main_arg1))
    (m ((c.tc : Thread nD τ).loc main_arg2)) (m ((c.tc : Thread nD τ).loc main_arg3))

/-- The 2048 largest of each row with their places. -/
def top (x : FVec Ideal S64x4096 .f32) : FVec Ideal S64x2048 .f32 × IVec S64x2048 32 :=
  Host.topK S64x2048 1 (FloatOps.cmpfTotal (F := Ideal) .gt) x sliceFits_S64x4096_S64x2048

/-- The values the reference returns are the largest of its logits … -/
theorem values_eq (c : Dev nD) : Value.res_main_values m c = (top (rows m c)).1 := by
  unfold Value.res_main_values
  rfl

/-- … and the indices are their places. -/
theorem indices_eq (c : Dev nD) : Value.res_main_indices m c = (top (rows m c)).2 := by
  unfold Value.res_main_indices
  rfl

end Cert.ReferenceIdeal.Logits

end
-- ==== Proof.Ranking.lean ====
/- Two tables of numbers that a stable sort puts in the same order have the same largest entries' places. -/
module

public import proofs.«01_k».proof.Proof.Quant
public import Idealize.ShloMosaic.Lib.SortFacts
public import Idealize.ShloMosaic.Lib.Pointwise

@[expose] public section

set_option maxRecDepth 16384

noncomputable section

namespace Cert.Ranking

open Idealize.ShloMosaic

/-! ## Sorting alike -/

/-- A stable sort only asks whether a later element goes before an earlier one. -/
theorem sort_alike {ι : Type} (R R' : ι → ι → Bool) (l : List ι) (h : l.Pairwise fun a b => R b a = R' b a) :
    stableSort R l = stableSort R' l := by
  induction l with
  | nil => rfl
  | cons a l ih =>
    obtain ⟨hd, tl⟩ := List.pairwise_cons.1 h
    unfold stableSort
    rw [ih tl]
    exact insertBefore_congr R R' a _ fun b hb => hd b ((perm_stableSort R' l).mem_iff.1 hb)

/-- So two relations that agree there put the same positions in the same places. -/
theorem from_alike {n : Nat} (R R' : Fin n → Fin n → Bool) (h : ∀ a b, a < b → R b a = R' b a) : sortedFrom R = sortedFrom R' := by
  funext k
  have e : sortPositions n R = sortPositions n R' :=
    sort_alike R R' _ ((List.pairwise_lt_finRange n).imp fun {a b} hab => h a b hab)
  unfold sortedFrom
  rw [List.get_of_eq e]
  rfl

/-! ## Keys and logits -/

/-- The order of two numbers in a row, as the sort asks for it. -/
theorem gt_iff (x y : EReal) : (FloatOps.cmpfTotal (F := Ideal) (φ := .f32) .gt x y == 1#1) = decide (y < x) := by
  show (BitVec.ofBool (decide (y < x)) == 1#1) = _
  by_cases h : y < x <;> simp [h]

/-- Keys that are a score or a decreasing negative number, and logits that are the same score or one negative
    number, are ordered alike. -/
theorem order_alike (p : Fin 4096 → Bool) (s t : Fin 4096 → EReal) (u : EReal) (hs : ∀ i, 0 ≤ s i) (ht : ∀ i, t i < 0)
    (hdec : ∀ i j, i < j → t j < t i) (hu : u < 0) (a b : Fin 4096) (hab : a < b) :
    decide ((if p a then s a else t a) < (if p b then s b else t b)) = decide ((if p a then s a else u) < (if p b then s b else u)) := by
  refine decide_eq_decide.2 ?_
  cases hpa : p a <;> cases hpb : p b <;> simp only [if_true, if_false, Bool.false_eq_true]
  · exact ⟨fun h => absurd h (hdec a b hab).not_gt, fun h => absurd h (lt_irrefl u)⟩
  · exact ⟨fun _ => hu.trans_le (hs b), fun _ => (ht a).trans_le (hs b)⟩
  · exact ⟨fun h => absurd h ((ht b).trans_le (hs a)).not_gt, fun h => absurd h (hu.trans_le (hs a)).not_gt⟩

/-! ## The largest entries -/

section
variable {R W H : Nat}

/-- Where a row's sorted entries come from, greatest first. -/
def order (x : FVec Ideal ⟨2, ![R, W]⟩ .f32) (b : Fin R) : Fin W → Fin W :=
  sortedFrom fun k k' => FloatOps.cmpfTotal (F := Ideal) (φ := .f32) .gt (x (ix2 b k)) (x (ix2 b k')) == 1#1

/-- A step along a row. -/
theorem along_row (j : (⟨2, ![R, W]⟩ : Shape).Idx) (k : Fin W) : j.along ⟨1, Nat.one_lt_two⟩ k = ix2 (n0 := R) (n1 := W) (j 0) k := by
  funext a
  match a with
  | ⟨0, _⟩ => rfl
  | ⟨1, _⟩ => rfl

/-- Both parts of a sort that carries the places along. -/
theorem sort_row (x : FVec Ideal ⟨2, ![R, W]⟩ .f32) (y : IVec ⟨2, ![R, W]⟩ 32) :
    Host.sort2 ⟨2, ![R, W]⟩ 1 (fun l r => FloatOps.cmpfTotal (F := Ideal) (φ := .f32) .gt l.1 r.1) x y
      = (fun j => x (ix2 (j 0) (order x (j 0) (j 1))), fun j => y (ix2 (j 0) (order x (j 0) (j 1)))) := by
  have e : ∀ j : (⟨2, ![R, W]⟩ : Shape).Idx,
      sortedFrom (n := W) (fun k k' => FloatOps.cmpfTotal (F := Ideal) (φ := .f32) .gt (x (j.along ⟨1, Nat.one_lt_two⟩ k)) (x (j.along ⟨1, Nat.one_lt_two⟩ k')) == 1#1)
        = order x (j 0) := by
    intro j
    unfold order
    refine congrArg sortedFrom (funext fun k => funext fun k' => ?_)
    rw [along_row, along_row]
  unfold Host.sort2
  rw [dif_pos (show 1 < (⟨2, ![R, W]⟩ : Shape).rank from Nat.one_lt_two)]
  refine Prod.ext (funext fun j => ?_) (funext fun j => ?_)
  · exact congrArg x ((along_row j _).trans (congrArg (ix2 (j 0)) (congrFun (e j) (j 1))))
  · exact congrArg y ((along_row j _).trans (congrArg (ix2 (j 0)) (congrFun (e j) (j 1))))

/-- Two tables whose rows are ordered alike have the same places for their largest entries, and the entries come from
    the same positions. -/
theorem top_alike (x y : FVec Ideal ⟨2, ![R, W]⟩ .f32) (hs : (⟨2, ![R, W]⟩ : Shape).Slices (fun _ => 0) ⟨2, ![R, H]⟩)
    (h : ∀ (b : Fin R) (p q : Fin W), p < q →
      (FloatOps.cmpfTotal (F := Ideal) (φ := .f32) .gt (x (ix2 b q)) (x (ix2 b p)) == 1#1)
        = (FloatOps.cmpfTotal (F := Ideal) (φ := .f32) .gt (y (ix2 b q)) (y (ix2 b p)) == 1#1)) :
    (Host.topK ⟨2, ![R, H]⟩ 1 (FloatOps.cmpfTotal (F := Ideal) .gt) x hs).2 = (Host.topK ⟨2, ![R, H]⟩ 1 (FloatOps.cmpfTotal (F := Ideal) .gt) y hs).2
      ∧ ∀ j : (⟨2, ![R, H]⟩ : Shape).Idx, ∃ (b : Fin R) (p : Fin W),
        (Host.topK ⟨2, ![R, H]⟩ 1 (FloatOps.cmpfTotal (F := Ideal) .gt) x hs).1 j = x (ix2 b p)
          ∧ (Host.topK ⟨2, ![R, H]⟩ 1 (FloatOps.cmpfTotal (F := Ideal) .gt) y hs).1 j = y (ix2 b p) := by
  have ho : order x = order y := funext fun b => from_alike _ _ fun p q hpq => h b p q hpq
  unfold Host.topK
  simp only [sort_row, ho]
  exact ⟨trivial, fun j => ⟨_, _, rfl, rfl⟩⟩

end

end Cert.Ranking

end
-- ==== Proof.Value.lean ====
/- The value claim: on finite queries and keys and non-negative weights the kernel and the reference return the
   same values and the same indices. -/
module

public import proofs.«01_k».proof.Defs
public import proofs.«01_k».proof.Proof.Tail
public import proofs.«01_k».proof.Proof.Logits
public import proofs.«01_k».proof.Proof.Ranking

@[expose] public section

set_option maxRecDepth 16384

noncomputable section

namespace Cert.Proof

open Idealize.ShloMosaic Idealize.ShloMosaic.TcCoe Idealize.SL.Sem
open Cert.KernelIdeal (S64x64x128 S64x4096x128 S64x64 S64 S128x128 S64x4096 S64x2048)
open Cert.KernelIdeal.Scores (score key table)

/-! ## What the precondition says of one element -/

/-- The precondition's shapes fit. -/
theorem pre_facts : Cert.Pre_finite_and_nonneg.Facts := by
  constructor <;> decide

/-- A magnitude below infinity is a real's. -/
theorem real_of_below (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Quant.lit_top] at h
  have h' : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h
    exact absurd h (by decide)
  obtain ⟨h1, h2⟩ := max_lt_iff.1 h'
  induction x using EReal.rec with
  | bot => exact absurd h2 (by simp)
  | coe r => exact ⟨r, rfl⟩
  | top => exact absurd h1 (by simp)

/-- A number the comparison finds at least zero is. -/
theorem nonneg_of_ge (x : EReal)
    (h : FloatOps.cmpf (F := Ideal) (φ := .f32) .oge x (Ideal.ofBits .f32 0x00000000#32) = 1#1) : 0 ≤ x := by
  rw [Quant.lit_zero] at h
  by_contra hn
  have : FloatOps.cmpf (F := Ideal) (φ := .f32) .oge x (0 : EReal) = 0#1 := by
    show BitVec.ofBool (decide (0 ≤ x)) = 0#1
    rw [decide_eq_false hn]; rfl
  rw [this] at h
  exact absurd h (by decide)

/-! ## The two tables -/

/-- With non-negative weights every score is non-negative. -/
theorem score_nonneg (had : FVec Ideal S128x128 .f32) (q : FVec Ideal S64x64x128 .f32) (k : FVec Ideal S64x4096x128 .f32)
    (w : FVec Ideal S64x64 .f32) (hw : ∀ i, 0 ≤ w i) (b : Fin 64) (p : Fin 4096) : 0 ≤ score had q k w b p := by
  obtain ⟨e, he, hE⟩ := Quant.lit_c
  refine Finset.sum_nonneg fun h _ => mul_nonneg (hw _) (mul_nonneg (le_max_right _ _) ?_)
  rw [hE]
  exact EReal.coe_nonneg.2 he.le

/-- A position's word reads back as the position. -/
theorem word_real (p : Fin 4096) : FloatOps.sitofp (F := Ideal) .f32 (BitVec.ofNat 32 p.val) = ((p.val : ℝ) : EReal) := by
  show (((BitVec.ofNat 32 p.val).toInt : ℝ) : EReal) = _
  have : (BitVec.ofNat 32 p.val).toInt = (p.val : Int) := by
    have := p.isLt
    rw [BitVec.toInt_eq_toNat_of_lt (by rw [BitVec.toNat_ofNat]; omega), BitVec.toNat_ofNat]
    omega
  rw [this, Int.cast_natCast]

/-- The key past the length. -/
def past (p : Fin 4096) : EReal := Ideal.ofBits .f32 0xBF800000#32 - FloatOps.sitofp (F := Ideal) .f32 (BitVec.ofNat 32 p.val)

/-- It is minus one less the position. -/
theorem past_eq (p : Fin 4096) : past p = ((-1 - (p.val : ℝ) : ℝ) : EReal) := by
  rw [past, word_real, Quant.lit_neg1, EReal.coe_sub]

/-- It is negative … -/
theorem past_neg (p : Fin 4096) : past p < 0 := by
  rw [past_eq, ← EReal.coe_zero, EReal.coe_lt_coe_iff]
  have : (0 : ℝ) ≤ p.val := Nat.cast_nonneg _
  linarith

/-- … and falls along the row. -/
theorem past_dec (p q : Fin 4096) (h : p < q) : past q < past p := by
  rw [past_eq, past_eq, EReal.coe_lt_coe_iff]
  have : (p.val : ℝ) < q.val := Nat.cast_lt.2 h
  linarith

/-- The mask value is negative. -/
theorem mask_neg : Ideal.ofBits .f32 0xF149F2CA#32 < (0 : EReal) := by
  obtain ⟨e, he, hE⟩ := Quant.lit_mask
  rw [hE, ← EReal.coe_zero, EReal.coe_lt_coe_iff]
  exact he

/-- A key below zero shows as the mask value, any other as itself. -/
def show1 (v : EReal) : EReal := if v < 0 then Ideal.ofBits .f32 0xF149F2CA#32 else v

/-- One shown entry. -/
theorem shown_apply (v : FVec Ideal S64x2048 .f32) (j : S64x2048.Idx) : Cert.KernelIdeal.Scores.shown v j = show1 (v j) := by
  show Scalar.select (FloatOps.cmpf (F := Ideal) (φ := .f32) .olt (v j) (Ideal.ofBits .f32 0x00000000#32)) (Ideal.ofBits .f32 0xF149F2CA#32) (v j) = _
  rw [Quant.lit_zero]
  show Scalar.select (BitVec.ofBool (decide (v j < 0))) _ _ = _
  unfold Scalar.select show1
  by_cases h : v j < 0 <;> simp [h]

/-- Keys and logits made of one table of scores: the same places come out on top, and the keys shown are the logits. -/
theorem results_alike (x y : FVec Ideal S64x4096 .f32) (u : Fin 64 → Fin 4096 → BitVec 1) (s : Fin 64 → Fin 4096 → EReal)
    (hs : ∀ b p, 0 ≤ s b p) (hx : ∀ b p, x (ix2 b p) = Scalar.select (u b p) (s b p) (past p))
    (hy : ∀ b p, y (ix2 b p) = Scalar.select (u b p) (s b p) (Ideal.ofBits .f32 0xF149F2CA#32)) :
    Cert.KernelIdeal.Scores.shown (Cert.KernelIdeal.Scores.top x).1 = (Cert.ReferenceIdeal.Logits.top y).1
      ∧ (Cert.KernelIdeal.Scores.top x).2 = (Cert.ReferenceIdeal.Logits.top y).2 := by
  obtain ⟨hi, hv⟩ := Ranking.top_alike x y Cert.KernelIdeal.Gen.facts.sliceFits_S64x4096_S64x2048 (fun b p q hpq => by
    rw [Ranking.gt_iff, Ranking.gt_iff, hx, hx, hy, hy]
    unfold Scalar.select
    have := Ranking.order_alike (fun i => decide (u b i = 1)) (s b) past _ (hs b) past_neg past_dec mask_neg p q hpq
    simp only [decide_eq_true_eq] at this
    exact this)
  refine ⟨funext fun j => ?_, hi⟩
  obtain ⟨b, p, h1, h2⟩ := hv j
  rw [shown_apply]
  refine (congrArg show1 (h1.trans (hx b p))).trans (Eq.trans ?_ (h2.trans (hy b p)).symm)
  unfold Scalar.select show1
  by_cases hu : u b p = 1
  · rw [if_pos hu, if_pos hu, if_neg (hs b p).not_gt]
  · rw [if_neg hu, if_neg hu, if_pos (past_neg p)]

/-- The kernel over the reals computes the reference over the reals. -/
theorem algebraic : Cert.algebraic_KernelIdeal_ReferenceIdeal_pre_finite_and_nonneg (hKernelIdeal := Cert.KernelIdeal.Gen.facts)
    (hReferenceIdeal := Cert.ReferenceIdeal.Gen.facts) (hPre_finite_and_nonneg := pre_facts) := by
  intro m g m' g' hpre hagree
  have key_of : ∀ c : Dev Cert.KernelIdeal.nD,
      Cert.KernelIdeal.Scores.shown (Cert.KernelIdeal.Scores.top (Cert.KernelIdeal.Scores.rows m c)).1
          = (Cert.ReferenceIdeal.Logits.top (Cert.ReferenceIdeal.Logits.rows m' c)).1
        ∧ (Cert.KernelIdeal.Scores.top (Cert.KernelIdeal.Scores.rows m c)).2
          = (Cert.ReferenceIdeal.Logits.top (Cert.ReferenceIdeal.Logits.rows m' c)).2 := by
    intro c
    obtain ⟨p0, p1, p2⟩ := hpre c
    obtain ⟨a0, a1, a2, a3⟩ := hagree c
    refine results_alike _ _ _ _ (score_nonneg table _ _ _ (fun i => nonneg_of_ge _ (congrFun p2 i)))
      (fun b p => Cert.KernelIdeal.Scores.rows_apply m c b p) (fun b p => ?_)
    unfold Cert.ReferenceIdeal.Logits.rows
    rw [a0, a1, a2, a3, Cert.ReferenceIdeal.Logits.table_same]
    exact Cert.ReferenceIdeal.Logits.reference_apply _ _ _ _ (fun i => real_of_below _ (congrFun p0 i))
      (fun i => real_of_below _ (congrFun p1 i)) b p
  refine ⟨fun c => Cert.KernelIdeal.Scores.shown (Cert.KernelIdeal.Scores.top (Cert.KernelIdeal.Scores.rows m c)).1,
    fun c => (Cert.KernelIdeal.Scores.top (Cert.KernelIdeal.Scores.rows m c)).2, Cert.KernelIdeal.Scores.run m g, ?_⟩
  refine (θ_run Cert.ReferenceIdeal.defs _ _).mono (fun r h c => ?_) (Cert.ReferenceIdeal.Value.run (F := Ideal) m' g')
  obtain ⟨h0, h1, h2⟩ := h c
  exact ⟨h0.trans ((Cert.ReferenceIdeal.Logits.values_eq m' c).trans (key_of c).1.symm),
    h1.trans ((Cert.ReferenceIdeal.Logits.indices_eq m' c).trans (key_of c).2.symm), h2⟩

end Cert.Proof

end
-- ==== Proof.lean ====
/- The certificate's claim, put together. -/
module

public import proofs.«01_k».proof.Defs
public import proofs.«01_k».proof.Proof.Frames
public import proofs.«01_k».proof.Proof.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, pre_facts,
    kernel_runs, kernel_ideal_runs, fun m g _ => kernel_ideal_runs m g trivial,
    reference_runs, fun m g _ => reference_runs m g trivial, trivial, algebraic⟩

end Cert.Proof

end
